-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hypercube [hPre_hypercube : Cert.Pre_hypercube.Facts] (m : (ℓ : Loc Cert.KernelIdeal.nD Cert.KernelIdeal.τ Cert.KernelIdeal.sig) → Buf (Elt Ideal) ℓ) : Prop :=
  ∀ c : Dev Cert.KernelIdeal.nD,
    (Cert.Pre_hypercube.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hypercube [hPre_hypercube : Cert.Pre_hypercube.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hypercube.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_hypercube [hKernelIdeal : Cert.KernelIdeal.Facts] [hPre_hypercube : Cert.Pre_hypercube.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hypercube m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_hypercube [hReferenceIdeal : Cert.ReferenceIdeal.Facts] [hPre_hypercube : Cert.Pre_hypercube.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hypercube m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "s" .f32 0x3D888889#32 ((15⁻¹ : ℝ) : EReal)

def algebraic_KernelIdeal_ReferenceIdeal_pre_hypercube [hKernelIdeal : Cert.KernelIdeal.Facts] [hReferenceIdeal : Cert.ReferenceIdeal.Facts] [hPre_hypercube : Cert.Pre_hypercube.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hypercube m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_hypercube : Cert.Pre_hypercube.Facts),
    quiescent_Kernel (hKernel := hKernel)
    ∧ quiescent_KernelIdeal (hKernelIdeal := hKernelIdeal)
    ∧ quiescent_KernelIdeal_pre_hypercube (hKernelIdeal := hKernelIdeal) (hPre_hypercube := hPre_hypercube)
    ∧ quiescent_ReferenceIdeal (hReferenceIdeal := hReferenceIdeal)
    ∧ quiescent_ReferenceIdeal_pre_hypercube (hReferenceIdeal := hReferenceIdeal) (hPre_hypercube := hPre_hypercube)
    ∧ preserves_Kernel_KernelIdeal
    ∧ algebraic_KernelIdeal_ReferenceIdeal_pre_hypercube (hKernelIdeal := hKernelIdeal) (hReferenceIdeal := hReferenceIdeal) (hPre_hypercube := hPre_hypercube)
-- ==== Pre_hypercube.lean ====
abbrev S4x64x16384 : Shape := ⟨3, ![4, 64, 16384]⟩
abbrev S_ : Shape := ⟨0, ![]⟩
abbrev S14 : Shape := ⟨1, ![14]⟩
abbrev S64x64 : Shape := ⟨2, ![64, 64]⟩
abbrev S64 : Shape := ⟨1, ![64]⟩
abbrev S16384x14 : Shape := ⟨2, ![16384, 14]⟩

class Facts : Prop where
  bcast_S_S4x64x16384 : S_.BroadcastsInDim S4x64x16384 (![] : Fin 0 → Fin S4x64x16384.rank)
  reducesTo_S4x64x16384_S_d0_1_2 : S4x64x16384.ReducesTo [0, 1, 2] S_
  h_S_ : 0 < S_.numel
  bcast_S_S14 : S_.BroadcastsInDim S14 (![] : Fin 0 → Fin S14.rank)
  reducesTo_S14_S_d0 : S14.ReducesTo [0] S_
  bcast_S_S64x64 : S_.BroadcastsInDim S64x64 (![] : Fin 0 → Fin S64x64.rank)
  reducesTo_S64x64_S_d0_1 : S64x64.ReducesTo [0, 1] S_
  bcast_S_S16384x14 : S_.BroadcastsInDim S16384x14 (![] : Fin 0 → Fin S16384x14.rank)
  reducesTo_S16384x14_S_d0_1 : S16384x14.ReducesTo [0, 1] S_

variable [Facts]

def fn_part1 {F : FTy → Type} [FloatOps F] (main_arg5 : IVec S16384x14 32) (main_v0 : IVec S16384x14 32) (main_v1 : IVec S16384x14 32) (main_v13 : IVec S_ 1) (main_v16 : IVec S64x64 1) (main_c_4 : IVec S_ 1) : IVec S_ 1 :=
  let main_v17 : IVec S_ 1 := (fun x v => Host.reduce IntOp.andi x v reducesTo_S64x64_S_d0_1 h_S_) main_v16 main_c_4
  let main_v18 : IVec S_ 1 := andi main_v13 main_v17
  let main_c_5 : IVec S_ 32 := constantI S_ 32 1#32
  let main_v19 : IVec S16384x14 32 := broadcastInDim S16384x14 ![] bcast_S_S16384x14 main_c_5
  let main_v20 : IVec S16384x14 32 := Host.shli main_v19 main_v1
  let main_v21 : IVec S16384x14 32 := xori main_v0 main_v20
  let main_v22 : IVec S16384x14 1 := cmpi .eq main_arg5 main_v21
  let main_c_6 : IVec S_ 1 := constantI S_ 1 1#1
  let main_v23 : IVec S_ 1 := (fun x v => Host.reduce IntOp.andi x v reducesTo_S16384x14_S_d0_1 h_S_) main_v22 main_c_6
  let main_v24 : IVec S_ 1 := andi main_v18 main_v23
  main_v24

def fn {F : FTy → Type} [FloatOps F] (main_arg0 : FVec F S4x64x16384 .f32) (main_arg1 : FVec F S_ .f32) (main_arg2 : FVec F S14 .f32) (main_arg3 : FVec F S64x64 .f32) (main_arg4 : FVec F S64 .f32) (main_arg5 : IVec S16384x14 32) : IVec S_ 1 :=
  let main_v0 : IVec S16384x14 32 := iotaInDim S16384x14 32 0
  let main_v1 : IVec S16384x14 32 := iotaInDim S16384x14 32 1
  let main_v2 : FVec F S4x64x16384 .f32 := Host.absf main_arg0
  let main_cst : FVec F S_ .f32 := constant S_ .f32 0x7F800000#32
  let main_v3 : FVec F S4x64x16384 .f32 := broadcastInDim S4x64x16384 ![] bcast_S_S4x64x16384 main_cst
  let main_v4 : IVec S4x64x16384 1 := cmpf .olt main_v2 main_v3
  let main_c : IVec S_ 1 := constantI S_ 1 1#1
  let main_v5 : IVec S_ 1 := (fun x v => Host.reduce IntOp.andi x v reducesTo_S4x64x16384_S_d0_1_2 h_S_) main_v4 main_c
  let main_v6 : FVec F S_ .f32 := Host.absf main_arg1
  let main_cst_0 : FVec F S_ .f32 := constant S_ .f32 0x7F800000#32
  let main_v7 : IVec S_ 1 := cmpf .olt main_v6 main_cst_0
  let main_v8 : IVec S_ 1 := andi main_v5 main_v7
  let main_v9 : FVec F S14 .f32 := Host.absf main_arg2
  let main_cst_1 : FVec F S_ .f32 := constant S_ .f32 0x7F800000#32
  let main_v10 : FVec F S14 .f32 := broadcastInDim S14 ![] bcast_S_S14 main_cst_1
  let main_v11 : IVec S14 1 := cmpf .olt main_v9 main_v10
  let main_c_2 : IVec S_ 1 := constantI S_ 1 1#1
  let main_v12 : IVec S_ 1 := (fun x v => Host.reduce IntOp.andi x v reducesTo_S14_S_d0 h_S_) main_v11 main_c_2
  let main_v13 : IVec S_ 1 := andi main_v8 main_v12
  let main_v14 : FVec F S64x64 .f32 := Host.absf main_arg3
  let main_cst_3 : FVec F S_ .f32 := constant S_ .f32 0x7F800000#32
  let main_v15 : FVec F S64x64 .f32 := broadcastInDim S64x64 ![] bcast_S_S64x64 main_cst_3
  let main_v16 : IVec S64x64 1 := cmpf .olt main_v14 main_v15
  let main_c_4 : IVec S_ 1 := constantI S_ 1 1#1
  fn_part1 (F := F) main_arg5 main_v0 main_v1 main_v13 main_v16 main_c_4
-- ==== Kernel.lean ====
abbrev S4x64x16384 : Shape := ⟨3, ![4, 64, 16384]⟩
abbrev S_ : Shape := ⟨0, ![]⟩
abbrev S14 : Shape := ⟨1, ![14]⟩
abbrev S64x64 : Shape := ⟨2, ![64, 64]⟩
abbrev S64 : Shape := ⟨1, ![64]⟩
abbrev S16384x14 : Shape := ⟨2, ![16384, 14]⟩
abbrev S1 : Shape := ⟨1, ![1]⟩
abbrev S15 : Shape := ⟨1, ![15]⟩
abbrev S64x1 : Shape := ⟨2, ![64, 1]⟩
abbrev S64x128 : Shape := ⟨2, ![64, 128]⟩
abbrev S32x128 : Shape := ⟨2, ![32, 128]⟩
abbrev S32x64 : Shape := ⟨2, ![32, 64]⟩
abbrev S1x64x16384 : Shape := ⟨3, ![1, 64, 16384]⟩
abbrev S1x32x16384 : Shape := ⟨3, ![1, 32, 16384]⟩
abbrev S128x128 : Shape := ⟨2, ![128, 128]⟩
abbrev S32x128x128 : Shape := ⟨3, ![32, 128, 128]⟩
abbrev S1x128x128 : Shape := ⟨3, ![1, 128, 128]⟩
abbrev S64x16384 : Shape := ⟨2, ![64, 16384]⟩
abbrev S32x16384 : Shape := ⟨2, ![32, 16384]⟩
abbrev S32x1x128 : Shape := ⟨3, ![32, 1, 128]⟩

abbrev nBuf : Space → Nat
  | .hbm => 11
  | .vmem => 10
  | .smem => 1
  | _ => 0

abbrev bufTy : (tb : Table) → Fin (tcTables nBuf tb) → BufTy
  | .hbm, ⟨0, _⟩ => ⟨S4x64x16384, .f32⟩
  | .hbm, ⟨1, _⟩ => ⟨S_, .f32⟩
  | .hbm, ⟨2, _⟩ => ⟨S14, .f32⟩
  | .hbm, ⟨3, _⟩ => ⟨S64x64, .f32⟩
  | .hbm, ⟨4, _⟩ => ⟨S64, .f32⟩
  | .hbm, ⟨5, _⟩ => ⟨S16384x14, .i32⟩
  | .hbm, ⟨6, _⟩ => ⟨S1, .f32⟩
  | .hbm, ⟨7, _⟩ => ⟨S15, .f32⟩
  | .hbm, ⟨8, _⟩ => ⟨S64x1, .f32⟩
  | .hbm, ⟨9, _⟩ => ⟨S64x128, .f32⟩
  | .hbm, ⟨10, _⟩ => ⟨S4x64x16384, .f32⟩
  | .local _ .vmem, ⟨0, _⟩ => ⟨S32x128, .f32⟩
  | .local _ .vmem, ⟨1, _⟩ => ⟨S32x128, .f32⟩
  | .local _ .vmem, ⟨2, _⟩ => ⟨S32x64, .f32⟩
  | .local _ .vmem, ⟨3, _⟩ => ⟨S32x64, .f32⟩
  | .local _ .vmem, ⟨4, _⟩ => ⟨S1x64x16384, .f32⟩
  | .local _ .vmem, ⟨5, _⟩ => ⟨S1x64x16384, .f32⟩
  | .local _ .vmem, ⟨6, _⟩ => ⟨S1x32x16384, .f32⟩
  | .local _ .vmem, ⟨7, _⟩ => ⟨S1x32x16384, .f32⟩
  | .local _ .vmem, ⟨8, _⟩ => ⟨S128x128, .f32⟩
  | .local _ .vmem, ⟨9, _⟩ => ⟨S32x128x128, .f32⟩
  | .local _ .smem, ⟨0, _⟩ => ⟨S15, .f32⟩
  | _, _ => ⟨S4x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S15 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "s" => some ((15⁻¹ : ℝ) : EReal)
  | _ => none
-- ==== ReferenceIdeal.lean ====
abbrev S4x64x16384 : Shape := ⟨3, ![4, 64, 16384]⟩
abbrev S_ : Shape := ⟨0, ![]⟩
abbrev S14 : Shape := ⟨1, ![14]⟩
abbrev S64x64 : Shape := ⟨2, ![64, 64]⟩
abbrev S64 : Shape := ⟨1, ![64]⟩
abbrev S16384x14 : Shape := ⟨2, ![16384, 14]⟩
abbrev S16384x14x1 : Shape := ⟨3, ![16384, 14, 1]⟩
abbrev S1 : Shape := ⟨1, ![1]⟩
abbrev S1x1x1 : Shape := ⟨3, ![1, 1, 1]⟩
abbrev S4x64x16384x14 : Shape := ⟨4, ![4, 64, 16384, 14]⟩
abbrev S1x1x1x14 : Shape := ⟨4, ![1, 1, 1, 14]⟩
abbrev S4x16384x64 : Shape := ⟨3, ![4, 16384, 64]⟩
abbrev S1x64x1 : Shape := ⟨3, ![1, 64, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x64x16384, .f32⟩
  | .hbm, ⟨1, _⟩ => ⟨S_, .f32⟩
  | .hbm, ⟨2, _⟩ => ⟨S14, .f32⟩
  | .hbm, ⟨3, _⟩ => ⟨S64x64, .f32⟩
  | .hbm, ⟨4, _⟩ => ⟨S64, .f32⟩
  | .hbm, ⟨5, _⟩ => ⟨S16384x14, .i32⟩
  | .hbm, ⟨6, _⟩ => ⟨S_, .i32⟩
  | .hbm, ⟨7, _⟩ => ⟨S16384x14, .i32⟩
  | .hbm, ⟨8, _⟩ => ⟨S16384x14, .i1⟩
  | .hbm, ⟨9, _⟩ => ⟨S_, .i32⟩
  | .hbm, ⟨10, _⟩ => ⟨S16384x14, .i32⟩
  | .hbm, ⟨11, _⟩ => ⟨S16384x14, .i32⟩
  | .hbm, ⟨12, _⟩ => ⟨S16384x14, .i32⟩
  | .hbm, ⟨13, _⟩ => ⟨S16384x14x1, .i32⟩
  | .hbm, ⟨14, _⟩ => ⟨S1, .i32⟩
  | .hbm, ⟨15, _⟩ => ⟨S_, .i32⟩
  | .hbm, ⟨16, _⟩ => ⟨S16384x14x1, .i32⟩
  | .hbm, ⟨17, _⟩ => ⟨S16384x14x1, .i1⟩
  | .hbm, ⟨18, _⟩ => ⟨S1x1x1, .i32⟩
  | .hbm, ⟨19, _⟩ => ⟨S16384x14x1, .i32⟩
  | .hbm, ⟨20, _⟩ => ⟨S16384x14x1, .i1⟩
  | .hbm, ⟨21, _⟩ => ⟨S16384x14x1, .i1⟩
  | .hbm, ⟨22, _⟩ => ⟨S_, .i1⟩
  | .hbm, ⟨23, _⟩ => ⟨S16384x14, .i1⟩
  | .hbm, ⟨24, _⟩ => ⟨S4x64x16384x14, .f32⟩
  | .hbm, ⟨25, _⟩ => ⟨S4x64x16384x14, .i1⟩
  | .hbm, ⟨26, _⟩ => ⟨S_, .f32⟩
  | .hbm, ⟨27, _⟩ => ⟨S4x64x16384x14, .f32⟩
  | .hbm, ⟨28, _⟩ => ⟨S4x64x16384x14, .f32⟩
  | .hbm, ⟨29, _⟩ => ⟨S1x1x1x14, .f32⟩
  | .hbm, ⟨30, _⟩ => ⟨S4x64x16384x14, .f32⟩
  | .hbm, ⟨31, _⟩ => ⟨S4x64x16384x14, .f32⟩
  | .hbm, ⟨32, _⟩ => ⟨S_, .f32⟩
  | .hbm, ⟨33, _⟩ => ⟨S4x64x16384, .f32⟩
  | .hbm, ⟨34, _⟩ => ⟨S4x64x16384, .f32⟩
  | .hbm, ⟨35, _⟩ => ⟨S4x64x16384, .f32⟩
  | .hbm, ⟨36, _⟩ => ⟨S4x64x16384, .f32⟩
  | .hbm, ⟨37, _⟩ => ⟨S_, .f32⟩
  | .hbm, ⟨38, _⟩ => ⟨S4x64x16384, .f32⟩
  | .hbm, ⟨39, _⟩ => ⟨S4x64x16384, .f32⟩
  | .hbm, ⟨40, _⟩ => ⟨S4x16384x64, .f32⟩
  | .hbm, ⟨41, _⟩ => ⟨S4x64x16384, .f32⟩
  | .hbm, ⟨42, _⟩ => ⟨S1x64x1, .f32⟩
  | .hbm, ⟨43, _⟩ => ⟨S4x64x16384, .f32⟩
  | .hbm, ⟨44, _⟩ => ⟨S4x64x16384, .f32⟩
  | _, _ => ⟨S4x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩

abbrev nD : Nat := 1
abbrev τ : Topo := Topo.v7x

variable {F : FTy → Type} [FloatOps F]
-- ==== Proof.Core.lean ====
module

public import Idealize.ShloMosaic.Lib.Pointwise
public import Mathlib.Tactic.Ring

/-! The equation between real numbers: multiplying by the two banded matrices is the same as adding
up the neighbours whose number differs in one bit. -/

@[expose] public section

noncomputable section

namespace Cert.Hypercube

/-- The site with row `h` and lane `q` in a line of 128 rows of 128 lanes. -/
def site (h q : Fin 128) : Fin 16384 := ⟨128 * h.val + q.val, by omega⟩

/-- The site whose number differs from `l`'s in bit `j`. -/
def flip (l : Fin 16384) (j : Fin 14) : Fin 16384 :=
  ⟨l.val ^^^ 2 ^ j.val, Nat.xor_lt_two_pow (n := 14) l.isLt (Nat.pow_lt_pow_right (by omega) j.isLt)⟩

/-- One term of a banded matrix: `v` where the row's and the column's numbers differ by exactly the
bits of `b`, and zero elsewhere. -/
def band (k q : Fin 128) (b : ℕ) (v : ℝ) : ℝ := if k.val ^^^ q.val = b then v else 0

/-- The lane whose number differs from `q`'s by the bits of `b`. -/
def turn (q : Fin 128) (b : ℕ) (hb : b < 128) : Fin 128 :=
  ⟨q.val ^^^ b, Nat.xor_lt_two_pow (n := 7) q.isLt hb⟩

/-- Summing against one band picks out the one entry on it. -/
theorem sum_band (f : Fin 128 → ℝ) (q : Fin 128) (b : ℕ) (hb : b < 128) (v : ℝ) :
    ∑ k, f k * band k q b v = f (turn q b hb) * v := by
  rw [Finset.sum_eq_single (turn q b hb)]
  · unfold band turn
    rw [if_pos]
    show (q.val ^^^ b) ^^^ q.val = b
    rw [Nat.xor_comm q.val b, Nat.xor_assoc, Nat.xor_self, Nat.xor_zero]
  · intro k _ hk
    unfold band
    rw [if_neg, mul_zero]
    intro h
    apply hk
    apply Fin.ext
    show k.val = q.val ^^^ b
    rw [← h, Nat.xor_comm k.val q.val, ← Nat.xor_assoc, Nat.xor_self, Nat.zero_xor]
  · intro h
    exact absurd (Finset.mem_univ _) h

/-- A band is the same read by columns as by rows. -/
theorem band_comm (k q : Fin 128) (b : ℕ) (v : ℝ) : band k q b v = band q k b v := by
  unfold band
  rw [Nat.xor_comm]

/-- The bits of `128 * a + b`, for `b` below 128: the seven lowest are `b`'s, the others are `a`'s. -/
theorem bit_split (a b i : ℕ) (hb : b < 2 ^ 7) :
    (128 * a + b).testBit i = if i < 7 then b.testBit i else a.testBit (i - 7) :=
  Nat.testBit_two_pow_mul_add (i := 7) a hb i

/-- A low bit of a site's number is a bit of its lane. -/
theorem flip_lo (h q : Fin 128) (j : Fin 7) :
    flip (site h q) ⟨j.val, by omega⟩
      = site h (turn q (2 ^ j.val) (Nat.pow_lt_pow_right (n := 7) (by omega) j.isLt)) := by
  apply Fin.ext
  show (128 * h.val + q.val) ^^^ 2 ^ j.val = 128 * h.val + (q.val ^^^ 2 ^ j.val)
  have hj : (2 : ℕ) ^ j.val < 2 ^ 7 := Nat.pow_lt_pow_right (by omega) j.isLt
  have hx : q.val ^^^ 2 ^ j.val < 2 ^ 7 := Nat.xor_lt_two_pow q.isLt hj
  apply Nat.eq_of_testBit_eq
  intro i
  rw [Nat.testBit_xor, bit_split _ _ _ q.isLt, bit_split _ _ _ hx]
  by_cases hi : i < 7
  · rw [if_pos hi, if_pos hi, Nat.testBit_xor]
  · rw [if_neg hi, if_neg hi,
      Nat.testBit_lt_two_pow (lt_of_lt_of_le hj (Nat.pow_le_pow_right (by omega) (by omega))), Bool.xor_false]

/-- A high bit of a site's number is a bit of its row. -/
theorem flip_hi (h q : Fin 128) (j : Fin 7) :
    flip (site h q) ⟨7 + j.val, by omega⟩
      = site (turn h (2 ^ j.val) (Nat.pow_lt_pow_right (n := 7) (by omega) j.isLt)) q := by
  apply Fin.ext
  show (128 * h.val + q.val) ^^^ 2 ^ (7 + j.val) = 128 * (h.val ^^^ 2 ^ j.val) + q.val
  apply Nat.eq_of_testBit_eq
  intro i
  rw [Nat.testBit_xor, bit_split _ _ _ q.isLt, bit_split _ _ _ q.isLt]
  by_cases hi : i < 7
  · rw [if_pos hi, if_pos hi, Nat.testBit_two_pow_of_ne (by omega), Bool.xor_false]
  · rw [if_neg hi, if_neg hi, Nat.testBit_xor, Nat.testBit_two_pow, Nat.testBit_two_pow]
    congr 2
    exact propext ⟨fun h => by omega, fun h => by omega⟩

/-- The matrix that acts along the lanes: the site itself and its seven low neighbours. -/
def lo (ws : ℝ) (wb : Fin 14 → ℝ) (k q : Fin 128) : ℝ :=
  band k q 0 (ws * 15⁻¹) + ∑ j : Fin 7, band k q (2 ^ j.val) (wb ⟨j.val, by omega⟩ * 15⁻¹)

/-- The matrix that acts along the rows: the seven high neighbours. -/
def hi (wb : Fin 14 → ℝ) (h k : Fin 128) : ℝ :=
  ∑ j : Fin 7, band h k (2 ^ j.val) (wb ⟨7 + j.val, by omega⟩ * 15⁻¹)

/-- The two matrices applied to a line of sites give the weighted sum of each site and its fourteen
neighbours, divided by fifteen. -/
theorem bands_eq (g : Fin 16384 → ℝ) (ws : ℝ) (wb : Fin 14 → ℝ) (h q : Fin 128) :
    ∑ k, g (site h k) * lo ws wb k q + ∑ k, hi wb h k * g (site k q)
      = (ws * g (site h q) + ∑ j, g (flip (site h q) j) * wb j) * 15⁻¹ := by
  have hlo : ∑ k, g (site h k) * lo ws wb k q
      = g (site h q) * (ws * 15⁻¹)
        + ∑ j : Fin 7, g (flip (site h q) ⟨j.val, by omega⟩) * (wb ⟨j.val, by omega⟩ * 15⁻¹) := by
    unfold lo
    simp only [mul_add, Finset.sum_add_distrib, Finset.mul_sum]
    rw [sum_band (fun k => g (site h k)) q 0 (by omega), Finset.sum_comm]
    refine congrArg₂ (· + ·) ?_ (Finset.sum_congr rfl fun j _ => ?_)
    · rw [show turn q 0 (by omega) = q from Fin.ext (Nat.xor_zero q.val)]
    · rw [sum_band (fun k => g (site h k)) q _ (Nat.pow_lt_pow_right (n := 7) (by omega) j.isLt), flip_lo]
  have hhi : ∑ k, hi wb h k * g (site k q)
      = ∑ j : Fin 7, g (flip (site h q) ⟨7 + j.val, by omega⟩) * (wb ⟨7 + j.val, by omega⟩ * 15⁻¹) := by
    unfold hi
    simp only [Finset.sum_mul]
    rw [Finset.sum_comm]
    refine Finset.sum_congr rfl fun j _ => ?_
    rw [flip_hi, ← sum_band (fun k => g (site k q)) h _ (Nat.pow_lt_pow_right (n := 7) (by omega) j.isLt)]
    refine Finset.sum_congr rfl fun k _ => ?_
    rw [band_comm, mul_comm]
  rw [hlo, hhi, Fin.sum_univ_add (a := 7) (b := 7) (fun j : Fin 14 => g (flip (site h q) j) * wb j)]
  simp only [add_mul, Finset.sum_mul]
  have e1 : ∀ j : Fin 7, (Fin.castAdd 7 j : Fin 14) = ⟨j.val, by omega⟩ := fun j => rfl
  have e2 : ∀ j : Fin 7, (Fin.natAdd 7 j : Fin 14) = ⟨7 + j.val, by omega⟩ := fun j => rfl
  simp only [e1, e2, mul_assoc]
  ring

/-- Mixing the channels first and then acting along the sites is the same as the reference's order:
the neighbours first, the division, and the mixing last. -/
theorem mixed_eq (x : Fin 64 → Fin 16384 → ℝ) (w : Fin 64 → ℝ) (ws : ℝ) (wb : Fin 14 → ℝ) (h q : Fin 128) :
    ∑ k, (∑ i, w i * x i (site h k)) * lo ws wb k q + ∑ k, hi wb h k * ∑ i, w i * x i (site k q)
      = ∑ i, (ws * x i (site h q) + ∑ j, x i (flip (site h q) j) * wb j) * 15⁻¹ * w i := by
  rw [bands_eq (fun l => ∑ i, w i * x i l)]
  simp only [Finset.sum_mul, Finset.mul_sum, add_mul, Finset.sum_add_distrib]
  rw [Finset.sum_comm (s := (Finset.univ : Finset (Fin 14)))]
  congr 1
  · exact Finset.sum_congr rfl fun i _ => by ring
  · exact Finset.sum_congr rfl fun i _ => Finset.sum_congr rfl fun j _ => by ring

end Cert.Hypercube

end
-- ==== Proof.Scratch.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Core

/-! What the two carried scratch arrays and the output block hold after each grid point. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The grid has a first point. -/
theorem first_lt : 0 < cfg0.N := by rw [show cfg0.N = 8 from N_0]; decide

/-- The scratch arrays are filled at the first point and keep their contents after it. -/
theorem scratch_kept (c : Dev nD) : ∀ (n : ℕ) (h : n < cfg0.N),
    (outsAt0 m c n h).2 = (outsAt0 m c 0 first_lt).2
  | 0, _ => rfl
  | n + 1, h => by
    have hN : cfg0.N = 8 := N_0
    have hB : ¬(⟨n + 1, h⟩ : Fin cfg0.N).val % 8 = 0 := by dsimp only; omega
    rw [outsAt0_B m c ⟨n + 1, h⟩ hB]
    exact scratch_kept c n (Nat.lt_of_succ_lt h)

/-- The output block after any point is the block payload of that point's input blocks and of the
    two scratch arrays the first point filled. -/
theorem out_block (c : Dev nD) (t : Fin cfg0.N) :
    (outsAt0 m c t.val t.isLt).1
      = k0_pay3 (iblk m c 3 t) (iblk m c 2 t) (outsAt0 m c 0 first_lt).2.1
          (outsAt0 m c 0 first_lt).2.2 (iblk m c 1 t) := by
  by_cases h : t.val % 8 = 0
  · have hN : cfg0.N = 8 := N_0
    have ht : t = ⟨0, first_lt⟩ := Fin.ext (by have := t.isLt; dsimp only; omega)
    subst ht
    rw [outsAt0_A m c ⟨0, first_lt⟩ h]
    frame_out
  · rw [outsAt0_B m c t h, scratch_kept]
    frame_out
    rw [read_unread_whole, read_unread_whole]

/-- The named constant is the real number one fifteenth. -/
theorem named_fifteenth : Named.named (F := Ideal) Cert.KernelIdeal.κ "s" (φ := .f32) 1032358025#32 = ((15⁻¹ : ℝ) : EReal) :=
  IdealRules.named_const.ideal_named_scalar _ _ _ _ rfl

/-- One masked term of the kernel's operators: a scaled weight where the exclusive or of the two
    coordinates is `b`, and zero elsewhere. -/
theorem masked (k q : Fin 128) (b : ℕ) (hb : b < 2 ^ 32) (B : BitVec 32) (hB : B = BitVec.ofNat 32 b) (e : EReal)
    (r : ℝ) (he : e = ((r : ℝ) : EReal)) :
    Scalar.select (IntOp.cmpi .eq (IntOp.xori (BitVec.ofNat 32 k.val) (BitVec.ofNat 32 q.val)) B)
        (e * Named.named (F := Ideal) Cert.KernelIdeal.κ "s" (φ := .f32) 1032358025#32) (0 : EReal)
      = ((Cert.Hypercube.band k q b (r * 15⁻¹) : ℝ) : EReal) := by
  subst hB he
  rw [named_fifteenth, ← EReal.coe_mul]
  have hx : IntOp.xori (BitVec.ofNat 32 k.val) (BitVec.ofNat 32 q.val) = BitVec.ofNat 32 (k.val ^^^ q.val) := by
    unfold IntOp.xori
    exact BitVec.ofNat_xor.symm
  have hl : k.val ^^^ q.val < 2 ^ 32 := Nat.xor_lt_two_pow (by omega) (by omega)
  rw [hx, Cert.Hypercube.band]
  by_cases h : k.val ^^^ q.val = b
  · rw [if_pos h, h]
    exact if_pos (IntOp.cmpi_eq.2 rfl)
  · rw [if_neg h, EReal.coe_zero]
    refine if_neg fun e => ?_
    have e' := congrArg BitVec.toNat (IntOp.cmpi_eq.1 e)
    rw [BitVec.toNat_ofNat, BitVec.toNat_ofNat, Nat.mod_eq_of_lt hl, Nat.mod_eq_of_lt hb] at e'
    exact h e'

/-- The low operator: on the diagonal the scaled weight of the site itself, and at each distance one
    the scaled weight of the low bit in which the coordinates differ. -/
theorem lo_at (c : Dev nD) (ws : ℝ) (wb : Fin 14 → ℝ)
    (hs : iblk m c 0 ⟨0, first_lt⟩ (ix1 14) = ((ws : ℝ) : EReal))
    (hb : ∀ j : Fin 14, iblk m c 0 ⟨0, first_lt⟩ (ix1 j.castSucc) = ((wb j : ℝ) : EReal)) (k q : Fin 128) :
    (outsAt0 m c 0 first_lt).2.1 (ix2 k q) = ((Cert.Hypercube.lo ws wb k q : ℝ) : EReal) := by
  rw [outsAt0_A m c ⟨0, first_lt⟩ rfl]
  frame_out
  generalize iblk m c 0 ⟨0, first_lt⟩ = X at *
  pointwise [k0_pay1, k0_pay4, k0_pay6, k0_pay9, k0_pay11, k0_pay12, k0_pay14]
  rw [masked k q 0 (by norm_num) 0#32 rfl _ _ hs, masked k q 1 (by norm_num) 1#32 rfl (X (ix1 0)) _ (hb 0),
    masked k q 2 (by norm_num) 2#32 rfl (X (ix1 1)) _ (hb 1), masked k q 4 (by norm_num) 4#32 rfl (X (ix1 2)) _ (hb 2),
    masked k q 8 (by norm_num) 8#32 rfl (X (ix1 3)) _ (hb 3), masked k q 16 (by norm_num) 16#32 rfl (X (ix1 4)) _ (hb 4),
    masked k q 32 (by norm_num) 32#32 rfl (X (ix1 5)) _ (hb 5), masked k q 64 (by norm_num) 64#32 rfl (X (ix1 6)) _ (hb 6)]
  simp only [← EReal.coe_add]
  rw [Cert.Hypercube.lo, Fin.sum_univ_seven]
  simp only [← add_assoc]
  rfl

/-- The high operator, the same for every channel of a block: at each distance one the scaled weight
    of the high bit in which the coordinates differ. -/
theorem hi_at (c : Dev nD) (wb : Fin 14 → ℝ)
    (hb : ∀ j : Fin 14, iblk m c 0 ⟨0, first_lt⟩ (ix1 j.castSucc) = ((wb j : ℝ) : EReal)) (o : Fin 32) (k q : Fin 128) :
    (outsAt0 m c 0 first_lt).2.2 (ix3 o k q) = ((Cert.Hypercube.hi wb k q : ℝ) : EReal) := by
  rw [outsAt0_A m c ⟨0, first_lt⟩ rfl]
  frame_out
  generalize iblk m c 0 ⟨0, first_lt⟩ = X at *
  pointwise [k0_pay2, k0_pay4, k0_pay5, k0_pay7, k0_pay8, k0_pay10, k0_pay13, k0_pay15, k0_pay16]
  rw [masked k q 1 (by norm_num) 1#32 rfl (X (ix1 7)) _ (hb 7),
    masked k q 2 (by norm_num) 2#32 rfl (X (ix1 8)) _ (hb 8), masked k q 4 (by norm_num) 4#32 rfl (X (ix1 9)) _ (hb 9),
    masked k q 8 (by norm_num) 8#32 rfl (X (ix1 10)) _ (hb 10), masked k q 16 (by norm_num) 16#32 rfl (X (ix1 11)) _ (hb 11),
    masked k q 32 (by norm_num) 32#32 rfl (X (ix1 12)) _ (hb 12), masked k q 64 (by norm_num) 64#32 rfl (X (ix1 13)) _ (hb 13)]
  simp only [← EReal.coe_add]
  rw [Cert.Hypercube.hi, Fin.sum_univ_seven]
  rfl

end Cert.KernelIdeal.Value

end
-- ==== Proof.Block.lean ====
module

public import proofs.«01_k».proof.Proof.Gen.KernelIdeal.Skeleton
public import proofs.«01_k».proof.Proof.Core
public import Idealize.ShloMosaic.Lib.IdealHost
public import Idealize.ShloMosaic.Lib.Pointwise

/-! What one grid point computes from its input blocks and the two operators. -/

@[expose] public section

set_option maxRecDepth 16384

noncomputable section

open Idealize.ShloMosaic Idealize.ShloMosaic.TcCoe Idealize.SL.Sem

namespace Cert.KernelIdeal.Value

open Cert.KernelIdeal Cert.KernelIdeal.Gen Cert.Hypercube

/-- A sum of real numbers is the same sum taken among the extended reals. -/
theorem coe_sum : ∀ {n : ℕ} (f : Fin n → ℝ), ((∑ i, f i : ℝ) : EReal) = ∑ i, ((f i : ℝ) : EReal)
  | 0, f => by simp
  | n + 1, f => by rw [Fin.sum_univ_castSucc, Fin.sum_univ_castSucc, EReal.coe_add, coe_sum]

/-- A number below 16384 is 128 times its quotient by 128 plus its remainder. -/
theorem exists_site (l : Fin 16384) : ∃ h q, l = site h q :=
  ⟨⟨l.val / 128, by omega⟩, ⟨l.val % 128, by omega⟩, Fin.ext (Nat.div_add_mod _ _).symm⟩

/-- The two numbers a site is read at, and the site with one of them replaced. -/
theorem site_parts (h q : Fin 128) : (site h q).val / 128 = h.val ∧ (site h q).val % 128 = q.val := by
  show (128 * h.val + q.val) / 128 = h.val ∧ (128 * h.val + q.val) % 128 = q.val
  omega

/-- One element of a grid point's output block: from finite inputs and the two banded operators, the
    weighted site and its neighbours, a fifteenth of each, mixed over the channels, plus the bias. -/
theorem block_at (X : FVec Ideal S1x64x16384 .f32) (W : FVec Ideal S32x64 .f32) (A : FVec Ideal S128x128 .f32)
    (H : FVec Ideal S32x128x128 .f32) (B : FVec Ideal S32x128 .f32) (o : Fin 32)
    (x : Fin 64 → Fin 16384 → ℝ) (w : Fin 64 → ℝ) (ws : ℝ) (wb : Fin 14 → ℝ) (bias : EReal)
    (hX : ∀ i l, X (ix3 0 i l) = ((x i l : ℝ) : EReal)) (hW : ∀ i, W (ix2 o i) = ((w i : ℝ) : EReal))
    (hA : ∀ k q, A (ix2 k q) = ((lo ws wb k q : ℝ) : EReal)) (hH : ∀ k q, H (ix3 o k q) = ((hi wb k q : ℝ) : EReal))
    (hB : ∀ q, B (ix2 o q) = bias) (l : Fin 16384) :
    k0_pay3 (F := Ideal) X W A H B (ix3 0 o l)
      = ((∑ i, (ws * x i l + ∑ j, x i (flip l j) * wb j) * 15⁻¹ * w i : ℝ) : EReal) + bias := by
  obtain ⟨h, q, rfl⟩ := exists_site l
  obtain ⟨e1, e2⟩ := site_parts h q
  pointwise [k0_pay3, hX, hW, hA, hH, hB]
  simp only [e1, e2]
  rw [← mixed_eq]
  simp only [EReal.coe_add, coe_sum, EReal.coe_mul]
  have c1 : ∀ k : Fin 128, site h k = ⟨h.val * 128 + k.val, by omega⟩ := fun k => Fin.ext (congrArg (· + k.val) (Nat.mul_comm 128 h.val))
  have c2 : ∀ k : Fin 128, site k q = ⟨k.val * 128 + q.val, by omega⟩ := fun k => Fin.ext (congrArg (· + q.val) (Nat.mul_comm 128 k.val))
  simp only [c1, c2]

end Cert.KernelIdeal.Value

end
-- ==== Proof.Reference.lean ====
module

public import proofs.«01_k».proof.Proof.Gen.ReferenceIdeal.Run
public import proofs.«01_k».proof.Proof.Core
public import Idealize.ShloMosaic.Lib.ReduceAll
public import Idealize.ShloMosaic.Lib.IdealHost
public import Idealize.ShloMosaic.Lib.Pointwise

/-! What the reference computes, element by element. -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Hypercube

/-- The index table with negative entries counted from the end, as the reference's take reads it. -/
def starts (n : IVec S16384x14 32) : IVec S16384x14x1 32 :=
  broadcastInDim S16384x14x1 ![0, 1] bcast_S16384x14_S16384x14x1_0_1 (select (cmpi .slt n (broadcastInDim S16384x14 ![] bcast_S_S16384x14 (constantI S_ 32 0#32))) (addi n (broadcastInDim S16384x14 ![] bcast_S_S16384x14 (constantI S_ 32 16384#32))) n)

/-- Whether each entry of the table lies inside the array. -/
def inside (n : IVec S16384x14 32) : IVec S16384x14 1 :=
  Host.reduce IntOp.andi (andi (cmpi .sge (starts n) (broadcastInDim S16384x14x1 ![] bcast_S_S16384x14x1 (constantI S_ 32 0#32))) (cmpi .sle (starts n) (broadcastInDim S16384x14x1 ![0, 1, 2] bcast_S1x1x1_S16384x14x1_0_1_2 (broadcastInDim S1x1x1 ![2] bcast_S1_S1x1x1_2 (constantI S1 32 16383#32))))) (constantI S_ 1 1#1) reducesTo_S16384x14x1_S16384x14_d2 h_S_

/-- The slices that the table's entries pick. -/
def picked (x : FVec Ideal S4x64x16384 .f32) (n : IVec S16384x14 32) : FVec Ideal S4x64x16384x14 .f32 :=
  Host.gather gather_S4x64x16384_S16384x14x1_S4x64x16384x14_01_2_n_n_2_2_4641 x (starts n)

/-- The neighbours: the picked slices, with a filler where an entry lies outside the array. -/
def taken (x : FVec Ideal S4x64x16384 .f32) (n : IVec S16384x14 32) : FVec Ideal S4x64x16384x14 .f32 :=
  select (broadcastInDim S4x64x16384x14 ![2, 3] bcast_S16384x14_S4x64x16384x14_2_3 (inside n)) (picked x n) (broadcastInDim S4x64x16384x14 ![] bcast_S_S4x64x16384x14 (constant S_ .f32 0x7FC00000#32))

/-- The reference's result as one term of its arguments. -/
def REF (x : FVec Ideal S4x64x16384 .f32) (ws : FVec Ideal S_ .f32) (wb : FVec Ideal S14 .f32)
    (w : FVec Ideal S64x64 .f32) (b : FVec Ideal S64 .f32) (n : IVec S16384x14 32) : FVec Ideal S4x64x16384 .f32 :=
  addf (transpose S4x64x16384 [0, 2, 1] (Host.dotGeneral dot_S4x64x16384_S64x64_S4x16384x64_1_1_02_0_n_n none (Host.divf (addf (mulf (broadcastInDim S4x64x16384 ![] bcast_S_S4x64x16384 ws) x) (Host.reduceAdd (mulf (taken x n) (broadcastInDim S4x64x16384x14 ![0, 1, 2, 3] bcast_S1x1x1x14_S4x64x16384x14_0_1_2_3 (shapeCast _ wb shapeCasts_S14_S1x1x1x14))) (constant S_ .f32 0x00000000#32) reducesTo_S4x64x16384x14_S4x64x16384_d3 h_S_)) (broadcastInDim S4x64x16384 ![] bcast_S_S4x64x16384 (constant S_ .f32 0x41700000#32))) w) transposes_S4x16384x64_S4x64x16384_0_2_1) (broadcastInDim S4x64x16384 ![0, 1, 2] bcast_S1x64x1_S4x64x16384_0_1_2 (broadcastInDim S1x64x1 ![1] bcast_S64_S1x64x1_1 b))

/-- A word below 16384 read as a signed integer is that number. -/
theorem toInt_small (v : Fin 16384) : (BitVec.ofNat 32 v.val).toInt = v.val := by
  rw [BitVec.toInt_eq_toNat_of_lt (by rw [BitVec.toNat_ofNat, Nat.mod_eq_of_lt (by omega)]; omega),
    BitVec.toNat_ofNat, Nat.mod_eq_of_lt (by omega)]

/-- An entry that names a place in the array is read as it stands. -/
theorem starts_at (n : IVec S16384x14 32) (l : Fin 16384) (j : Fin 14) (v : Fin 16384)
    (h : n (ix2 l j) = BitVec.ofNat 32 v.val) : starts n (ix3 l j 0) = BitVec.ofNat 32 v.val := by
  pointwise [starts, h]
  rw [Scalar.select, if_neg]
  intro e
  have := IntOp.cmpi_slt.1 e
  rw [toInt_small] at this
  simp at this
  omega

/-- When every entry names a place in the array, every entry is inside. -/
theorem inside_at (n : IVec S16384x14 32) (v : Fin 16384 → Fin 14 → Fin 16384)
    (h : ∀ l j, n (ix2 l j) = BitVec.ofNat 32 (v l j).val) (y : S16384x14.Idx) : inside n y = 1#1 := by
  refine Host.reduce_andi_one _ _ _ _ _ rfl fun i => ?_
  obtain ⟨l, j, z, rfl⟩ : ∃ (l : Fin 16384) (j : Fin 14) (z : Fin 1), i = ix3 l j z := ⟨i 0, i 1, i 2, eq_ix3 i⟩
  obtain rfl : z = 0 := Subsingleton.elim _ _
  pointwise [starts_at n l j _ (h l j)]
  refine IntOp.andi_eq_one.2 ⟨IntOp.cmpi_sge.2 ?_, IntOp.cmpi_sle.2 ?_⟩
  · rw [toInt_small]; simp
  · rw [toInt_small, show (16383#32).toInt = 16383 from rfl]
    have := (v l j).isLt
    omega

/-- The axes along which the reference's take reads. -/
abbrev dims : GatherDims S4x64x16384 S16384x14x1 S4x64x16384x14 :=
  gather_S4x64x16384_S16384x14x1_S4x64x16384x14_01_2_n_n_2_2_4641

/-- The slice picked at a site and a bit is the array at the site that the entry names. -/
theorem picked_at (x : FVec Ideal S4x64x16384 .f32) (n : IVec S16384x14 32) (b : Fin 4) (i : Fin 64)
    (l : Fin 16384) (j : Fin 14) (v : Fin 16384) (h : n (ix2 l j) = BitVec.ofNat 32 v.val) :
    picked x n (ix4 b i l j) = x (ix3 b i v) := by
  unfold picked Host.gather
  refine congrArg x (funext fun a => Fin.ext ?_)
  have hs : starts n (dims.siIdx (ix4 b i l j) ⟨dims.startIndexMap.idxOf 2,
      List.idxOf_lt_length_iff.2 (List.mem_singleton.mpr rfl)⟩) = BitVec.ofNat 32 v.val := by
    refine Eq.trans (congrArg _ ?_) (starts_at n l j v h)
    funext q
    refine Fin.ext ?_
    match q with
    | ⟨0, _⟩ => rfl
    | ⟨1, _⟩ => rfl
    | ⟨2, _⟩ => rfl
  show dims.start (ix4 b i l j) (starts n) a + dims.batchCoord (ix4 b i l j) a
    + dims.offCoord (ix4 b i l j) a = _
  rw [GatherDims.batchCoord_eq_zero _ _ _ List.not_mem_nil]
  match a with
  | ⟨0, _⟩ =>
    show dims.start (ix4 b i l j) (starts n) 0 + 0 + dims.offCoord (ix4 b i l j) 0 = b.val
    rw [GatherDims.start, dif_neg (by decide)]
    exact (Nat.zero_add _).trans rfl
  | ⟨1, _⟩ =>
    show dims.start (ix4 b i l j) (starts n) 1 + 0 + dims.offCoord (ix4 b i l j) 1 = i.val
    rw [GatherDims.start, dif_neg (by decide)]
    exact (Nat.zero_add _).trans rfl
  | ⟨2, _⟩ =>
    show dims.start (ix4 b i l j) (starts n) 2 + 0 + dims.offCoord (ix4 b i l j) 2 = v.val
    rw [GatherDims.offCoord_eq_zero _ _ _ (fun h => ((GatherDims.mem_sKept _ _).mp h).1 (List.mem_singleton.mpr rfl)),
      GatherDims.start, dif_pos (show (2 : Fin 3) ∈ dims.startIndexMap from List.mem_singleton.mpr rfl), hs, toInt_small]
    show min (v.val : ℤ).toNat (16384 - 1) + 0 + 0 = v.val
    have := v.isLt
    simp only [Int.toNat_natCast]
    omega

/-- The neighbour at a site and a bit. -/
theorem taken_at (x : FVec Ideal S4x64x16384 .f32) (n : IVec S16384x14 32) (v : Fin 16384 → Fin 14 → Fin 16384)
    (h : ∀ l j, n (ix2 l j) = BitVec.ofNat 32 (v l j).val) (b : Fin 4) (i : Fin 64) (l : Fin 16384) (j : Fin 14) :
    taken x n (ix4 b i l j) = x (ix3 b i (v l j)) := by
  pointwise [taken, inside_at n v h]
  exact picked_at x n b i l j _ (h l j)

/-- The divisor's bit pattern is fifteen. -/
theorem fifteen : Ideal.ofBits .f32 0x41700000#32 = ((15 : ℝ) : EReal) := by
  simp [Ideal.ofBits, Ideal.ieee, -EReal.coe_mul]; norm_num

/-- The reference at an element: each input channel's site and neighbours weighted and divided by
fifteen, the channels mixed, and the bias added. -/
theorem ref_at (x : FVec Ideal S4x64x16384 .f32) (ws : FVec Ideal S_ .f32) (wb : FVec Ideal S14 .f32)
    (w : FVec Ideal S64x64 .f32) (b : FVec Ideal S64 .f32) (n : IVec S16384x14 32)
    (v : Fin 16384 → Fin 14 → Fin 16384) (h : ∀ l j, n (ix2 l j) = BitVec.ofNat 32 (v l j).val)
    (p : Fin 4) (o : Fin 64) (l : Fin 16384) :
    REF x ws wb w b n (ix3 p o l)
      = (∑ i : Fin 64, (ws ix0 * x (ix3 p i l) + ∑ j : Fin 14, x (ix3 p i (v l j)) * wb (ix1 j)) * ((15⁻¹ : ℝ) : EReal) * w (ix2 o i))
        + b (ix1 o) := by
  pointwise [REF, taken_at x n v h, fifteen]
  simp only [Ideal.div_coe (show (15 : ℝ) ≠ 0 by norm_num), one_div]

end Cert.ReferenceIdeal.Value

end
-- ==== Proof.Finite.lean ====
module

public import proofs.«01_k».proof.Proof.Gen.Pre_hypercube
public import proofs.«01_k».proof.Pre_hypercube
public import proofs.«01_k».proof.Proof.Core
public import Idealize.ShloMosaic.Lib.ReduceAll
public import Idealize.ShloMosaic.Lib.IdealHost

/-! What the precondition says of the arguments: they are real numbers, and the index table names the
neighbours of each site. -/

@[expose] public section

set_option maxRecDepth 16384

noncomputable section

open Idealize.ShloMosaic Idealize.ShloMosaic.TcCoe Idealize.SL.Sem

namespace Cert.Pre_hypercube

open Cert.Pre_hypercube.Gen

/-- The pattern of the format's infinity is the greatest extended real. -/
theorem infinity : Ideal.ofBits .f32 0x7F800000#32 = ⊤ := by simp [Ideal.ofBits, Ideal.ieee]

/-- An extended real whose absolute value is below infinity is a real number. -/
theorem real_of_olt (v : EReal) (h : Ideal.cmp .olt (max v (-v)) (Ideal.ofBits .f32 0x7F800000#32) = 1#1) :
    ∃ r : ℝ, v = (r : EReal) := by
  rw [infinity] at h
  have h' : max v (-v) < ⊤ := by
    by_contra hc
    rw [Ideal.cmp, decide_eq_false hc] at h
    exact absurd h (by decide)
  induction v with
  | bot => simp at h'
  | top => simp at h'
  | coe r => exact ⟨r, rfl⟩

/-- The word that the table holds at a site and a bit: the site's number with that bit changed. -/
theorem word_flip (l : Fin 16384) (j : Fin 14) :
    IntOp.xori (BitVec.ofNat 32 l.val) (IntOp.shli .host 1#32 (BitVec.ofNat 32 j.val))
      = BitVec.ofNat 32 (Cert.Hypercube.flip l j).val := by
  have hj : j.val < 32 := by omega
  have hp : 2 ^ j.val < 2 ^ 32 := Nat.pow_lt_pow_right (by omega) hj
  have hf : l.val ^^^ 2 ^ j.val < 2 ^ 14 := (Cert.Hypercube.flip l j).isLt
  have ht : (BitVec.ofNat 32 j.val).toNat = j.val := by
    rw [BitVec.toNat_ofNat, Nat.mod_eq_of_lt (by omega)]
  have hs : (IntOp.shli .host 1#32 (BitVec.ofNat 32 j.val)).toNat = 2 ^ j.val := by
    rw [IntOp.shli, if_pos (by rw [ht]; exact hj)]
    show (1#32 <<< (BitVec.ofNat 32 j.val).toNat).toNat = _
    rw [ht, BitVec.toNat_shiftLeft, Nat.shiftLeft_eq, show (1#32).toNat = 1 from rfl, one_mul,
      Nat.mod_eq_of_lt hp]
  apply BitVec.eq_of_toNat_eq
  show (BitVec.ofNat 32 l.val ^^^ IntOp.shli .host 1#32 (BitVec.ofNat 32 j.val)).toNat = _
  rw [BitVec.toNat_xor, hs, BitVec.toNat_ofNat, BitVec.toNat_ofNat, Nat.mod_eq_of_lt (by omega)]
  exact (Nat.mod_eq_of_lt (by show l.val ^^^ 2 ^ j.val < 2 ^ 32; omega)).symm

/-- Under the precondition the float arguments are real numbers and the table is the neighbour table. -/
theorem unpack (x : FVec Ideal S4x64x16384 .f32) (ws : FVec Ideal S_ .f32) (wb : FVec Ideal S14 .f32)
    (w : FVec Ideal S64x64 .f32) (b : FVec Ideal S64 .f32) (n : IVec S16384x14 32)
    (h : fn (F := Ideal) x ws wb w b n = fun _ => 1#1) :
    (∃ x' : Fin 4 → Fin 64 → Fin 16384 → ℝ, ∀ i j l, x (ix3 i j l) = (x' i j l : EReal))
    ∧ (∃ s : ℝ, ws ix0 = (s : EReal))
    ∧ (∃ wb' : Fin 14 → ℝ, ∀ j, wb (ix1 j) = (wb' j : EReal))
    ∧ (∃ w' : Fin 64 → Fin 64 → ℝ, ∀ o i, w (ix2 o i) = (w' o i : EReal))
    ∧ ∀ l j, n (ix2 l j) = BitVec.ofNat 32 (Cert.Hypercube.flip l j).val := by
  have h0 := congrFun h ix0
  unfold fn fn_part1 at h0
  dsimp only at h0
  obtain ⟨h1, hn⟩ := IntOp.andi_eq_one.1 h0
  obtain ⟨h2, hw⟩ := IntOp.andi_eq_one.1 h1
  obtain ⟨h3, hb⟩ := IntOp.andi_eq_one.1 h2
  obtain ⟨hx, hs⟩ := IntOp.andi_eq_one.1 h3
  haveI : Subsingleton S_.Idx := ⟨fun a b => funext fun i => i.elim0⟩
  have ex := Host.reduce_andi_all _ _ _ _ _ hx
  have eb := Host.reduce_andi_all _ _ _ _ _ hb
  have ew := Host.reduce_andi_all _ _ _ _ _ hw
  have en := Host.reduce_andi_all _ _ _ _ _ hn
  have cx : ∀ i j l, ∃ r : ℝ, x (ix3 i j l) = (r : EReal) := fun i j l => real_of_olt _ (ex (ix3 i j l))
  have cb : ∀ j, ∃ r : ℝ, wb (ix1 j) = (r : EReal) := fun j => real_of_olt _ (eb (ix1 j))
  have cw : ∀ o i, ∃ r : ℝ, w (ix2 o i) = (r : EReal) := fun o i => real_of_olt _ (ew (ix2 o i))
  choose x' hx' using cx
  choose b' hb' using cb
  choose w' hw' using cw
  refine ⟨⟨x', hx'⟩, real_of_olt _ hs, ⟨b', hb'⟩, ⟨w', hw'⟩, fun l j => ?_⟩
  have e := en (ix2 l j)
  exact (IntOp.cmpi_eq.1 e).trans (word_flip l j)

end Cert.Pre_hypercube

end
-- ==== Proof.Final.lean ====
module

public import proofs.«01_k».proof.Proof.Scratch
public import proofs.«01_k».proof.Proof.Block
public import proofs.«01_k».proof.Proof.Reference
public import proofs.«01_k».proof.Proof.Finite

/-! The kernel's result array is the reference's term. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Hypercube

variable (m : (ℓ : Loc nD τ sig) → Buf (Elt Ideal) ℓ)

/-- Which block of its array each window holds at each grid point: the point's number is twice the
    batch plus the half of the output channels. -/
theorem idx : ∀ t : Fin cfg0.N, win0_0.index t = ![0] ∧ win0_1.index t = ![t.val % 2, 0]
    ∧ win0_2.index t = ![t.val % 2, 0] ∧ win0_3.index t = ![t.val / 2, 0, 0]
    ∧ win0_4.index t = ![t.val / 2, t.val % 2, 0] :=
  (by decide +kernel : ∀ t : Fin grid0.N, _)

/-- The batch that a grid point works on. -/
def batch (t : Fin cfg0.N) : Fin 4 := ⟨t.val / 2, by have h := t.isLt; have hN : cfg0.N = 8 := N_0; omega⟩

/-- The output channel at row `o` of a grid point's block. -/
def chan (t : Fin cfg0.N) (o : Fin 32) : Fin 64 := ⟨t.val % 2 * 32 + o.val, by omega⟩

/-- The block of the input array is the batch's slice. -/
theorem x_at (c : Dev nD) (t : Fin cfg0.N) (i : Fin 64) (l : Fin 16384) :
    iblk m c 3 t (ix3 0 i l) = m ((c : Thread nD τ).loc main_arg0) (ix3 (batch t) i l) := by
  obtain ⟨e0, e1, e2, e3, e4⟩ := idx t
  blk_ext [iblk, V, e3, batch]

/-- The block of the mixing matrix is the rows of its output channels. -/
theorem w_at (c : Dev nD) (t : Fin cfg0.N) (o : Fin 32) (i : Fin 64) :
    iblk m c 2 t (ix2 o i) = m ((c : Thread nD τ).loc main_arg3) (ix2 (chan t o) i) := by
  obtain ⟨e0, e1, e2, e3, e4⟩ := idx t
  blk_ext [iblk, V, e2, chan]

/-- The bias block holds the output channel's bias in every lane. -/
theorem bias_at (c : Dev nD) (t : Fin cfg0.N) (o : Fin 32) (q : Fin 128) :
    iblk m c 1 t (ix2 o q) = m ((c : Thread nD τ).loc main_arg4) (ix1 (chan t o)) := by
  obtain ⟨e0, e1, e2, e3, e4⟩ := idx t
  have h : iblk m c 1 t (ix2 o q) = V m c main_v3 (ix2 (chan t o) q) := by
    blk_ext [iblk, e1, chan]
  rw [h]
  entry_read
  pointwise

/-- The weights' block is the whole array of fifteen weights. -/
theorem weights_at (c : Dev nD) (t : Fin cfg0.N) (j : Fin 15) : iblk m c 0 t (ix1 j) = V m c main_v1 (ix1 j) := by
  obtain ⟨e0, e1, e2, e3, e4⟩ := idx t
  blk_ext [iblk, e0]

/-- The first fourteen of them are the bit weights, -/
theorem bits_at (c : Dev nD) (j : Fin 14) :
    iblk m c 0 ⟨0, first_lt⟩ (ix1 j.castSucc) = m ((c : Thread nD τ).loc main_arg2) (ix1 j) := by
  rw [weights_at]
  entry_read
  pointwise
  exact dif_pos j.isLt

/-- and the last is the site's own weight. -/
theorem self_at (c : Dev nD) :
    iblk m c 0 ⟨0, first_lt⟩ (ix1 14) = m ((c : Thread nD τ).loc main_arg1) ix0 := by
  rw [weights_at]
  entry_read
  pointwise

/-- On finite inputs and the table of single-bit neighbours, the kernel's result array is the
    reference's term of the arguments. -/
theorem final (c : Dev nD)
    (hpre : Cert.Pre_hypercube.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    (dats m 0 c).arrAt 4 cfg0.N
      = Cert.ReferenceIdeal.Value.REF (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  obtain ⟨⟨x, hx⟩, ⟨ws, hws⟩, ⟨wb, hwb⟩, ⟨w, hw⟩, hn⟩ := Cert.Pre_hypercube.unpack _ _ _ _ _ _ hpre
  refine (dats m 0 c).arrAt_eq_of_covers 4 _ (by decide +kernel) fun t _ y => ?_
  blk_simp
  rw [after0_4, out_block]
  obtain ⟨z, o, l, rfl⟩ : ∃ (z : Fin 1) (o : Fin 32) (l : Fin 16384), y = ix3 z o l := ⟨y 0, y 1, y 2, eq_ix3 y⟩
  obtain rfl : z = 0 := Subsingleton.elim _ _
  have hy : ((cfg0.win 4).blk t).view.emb (ix3 0 o l) = ix3 (batch t) (chan t o) l := by
    obtain ⟨e0, e1, e2, e3, e4⟩ := idx t
    blk_ext [e4, batch, chan]
  rw [hy, Cert.ReferenceIdeal.Value.ref_at _ _ _ _ _ _ flip hn]
  rw [block_at (iblk m c 3 t) (iblk m c 2 t) _ _ (iblk m c 1 t) o (fun i l => x (batch t) i l) (fun i => w (chan t o) i) ws wb
    (m ((c : Thread nD τ).loc main_arg4) (ix1 (chan t o)))
    (fun i l => (x_at m c t i l).trans (hx _ _ _)) (fun i => (w_at m c t o i).trans (hw _ _))
    (fun k q => lo_at m c ws wb ((self_at m c).trans hws) (fun j => (bits_at m c j).trans (hwb j)) k q)
    (fun k q => hi_at m c wb (fun j => (bits_at m c j).trans (hwb j)) o k q)
    (fun q => bias_at m c t o q) l]
  simp only [hx, hws, hwb, hw, coe_sum, EReal.coe_add, EReal.coe_mul]

end Cert.KernelIdeal.Value

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_hypercube
public import proofs.«01_k».proof.Proof.Gen.ReferenceIdeal.Run
public import proofs.«01_k».proof.Proof.Final
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The idealized reference runs to its end, leaves its arguments as they were and no semaphore raised. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference on the arguments the precondition admits. -/
theorem quiescent_ReferenceIdeal_pre : Cert.quiescent_ReferenceIdeal_pre_hypercube := fun m ρ _ =>
  quiescent_ReferenceIdeal m ρ trivial

/-- On arguments that the precondition admits, the kernel's result array and the reference's are equal over
    the extended reals, and both programs leave their arguments as they were. -/
theorem algebraic : Cert.algebraic_KernelIdeal_ReferenceIdeal_pre_hypercube := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5⟩ := hagree c
  rw [a0, a1, a2, a3, a4, a5]
  exact ((Cert.KernelIdeal.Value.final4 m c).symm.trans (Cert.KernelIdeal.Value.final m c (hpre c))).symm

/-- All the claims of the certificate. -/
theorem claim : Cert.Claim := ⟨Cert.Kernel.Gen.facts, Cert.KernelIdeal.Gen.facts, Cert.ReferenceIdeal.Gen.facts, Cert.Pre_hypercube.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre,
  IdealRules.named_const.statement Cert.KernelIdeal.κ "s" .f32 0x3D888889#32 ((15⁻¹ : ℝ) : EReal) rfl, algebraic⟩

end Cert.Proof

end
